-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "c" .f32 0xBE8293EE#32 ((-((Real.log 2)⁻¹ * (Real.sqrt 32)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x512 : Shape := ⟨3, ![32, 2048, 512]⟩
abbrev S32x2048 : Shape := ⟨2, ![32, 2048]⟩
abbrev S512x32 : Shape := ⟨2, ![512, 32]⟩
abbrev S1x32x32 : Shape := ⟨3, ![1, 32, 32]⟩
abbrev S32x1 : Shape := ⟨2, ![32, 1]⟩
abbrev S32x1x2048 : Shape := ⟨3, ![32, 1, 2048]⟩
abbrev S32x1x512 : Shape := ⟨3, ![32, 1, 512]⟩
abbrev S1x2048x512 : Shape := ⟨3, ![1, 2048, 512]⟩
abbrev S1x1x2048 : Shape := ⟨3, ![1, 1, 2048]⟩
abbrev S1x1x512 : Shape := ⟨3, ![1, 1, 512]⟩
abbrev S2048x512 : Shape := ⟨2, ![2048, 512]⟩
abbrev S1x2048 : Shape := ⟨2, ![1, 2048]⟩
abbrev S2048x32 : Shape := ⟨2, ![2048, 32]⟩
abbrev S32x32 : Shape := ⟨2, ![32, 32]⟩
abbrev S2048 : Shape := ⟨1, ![2048]⟩
abbrev S1 : Shape := ⟨1, ![1]⟩
abbrev S1x1x1 : Shape := ⟨3, ![1, 1, 1]⟩
abbrev S2048x1 : Shape := ⟨2, ![2048, 1]⟩
abbrev S1x512 : Shape := ⟨2, ![1, 512]⟩
abbrev S32x512 : Shape := ⟨2, ![32, 512]⟩

abbrev nBuf : Space → Nat
  | .hbm => 9
  | .vmem => 9
  | .smem => 0
  | _ => 0

abbrev bufTy : (tb : Table) → Fin (tcTables nBuf tb) → BufTy
  | .hbm, ⟨0, _⟩ => ⟨S32x2048x512, .f32⟩
  | .hbm, ⟨1, _⟩ => ⟨S32x2048, .i1⟩
  | .hbm, ⟨2, _⟩ => ⟨S512x32, .f32⟩
  | .hbm, ⟨3, _⟩ => ⟨S1x32x32, .f32⟩
  | .hbm, ⟨4, _⟩ => ⟨S32x1, .f32⟩
  | .hbm, ⟨5, _⟩ => ⟨S32x1x2048, .i1⟩
  | .hbm, ⟨6, _⟩ => ⟨S32x1x2048, .i32⟩
  | .hbm, ⟨7, _⟩ => ⟨S32x1x512, .f32⟩
  | .hbm, ⟨8, _⟩ => ⟨S32x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .i32⟩
  | .local _ .vmem, ⟨3, _⟩ => ⟨S1x1x2048, .i32⟩
  | .local _ .vmem, ⟨4, _⟩ => ⟨S512x32, .f32⟩
  | .local _ .vmem, ⟨5, _⟩ => ⟨S1x32x32, .f32⟩
  | .local _ .vmem, ⟨6, _⟩ => ⟨S32x1, .f32⟩
  | .local _ .vmem, ⟨7, _⟩ => ⟨S1x1x512, .f32⟩
  | .local _ .vmem, ⟨8, _⟩ => ⟨S1x1x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "c" => some ((-((Real.log 2)⁻¹ * (Real.sqrt 32)⁻¹) : ℝ) : EReal)
  | _ => none
-- ==== ReferenceIdeal.lean ====
abbrev S32x2048x512 : Shape := ⟨3, ![32, 2048, 512]⟩
abbrev S32x2048 : Shape := ⟨2, ![32, 2048]⟩
abbrev S512x32 : Shape := ⟨2, ![512, 32]⟩
abbrev S1x32x32 : Shape := ⟨3, ![1, 32, 32]⟩
abbrev S32x1 : Shape := ⟨2, ![32, 1]⟩
abbrev S_ : Shape := ⟨0, ![]⟩
abbrev S32x2048x1 : Shape := ⟨3, ![32, 2048, 1]⟩
abbrev S32x2048x32 : Shape := ⟨3, ![32, 2048, 32]⟩
abbrev S32x32 : Shape := ⟨2, ![32, 32]⟩
abbrev S32x1x1 : Shape := ⟨3, ![32, 1, 1]⟩
abbrev S32x512 : Shape := ⟨2, ![32, 512]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048, .i1⟩
  | .hbm, ⟨2, _⟩ => ⟨S512x32, .f32⟩
  | .hbm, ⟨3, _⟩ => ⟨S1x32x32, .f32⟩
  | .hbm, ⟨4, _⟩ => ⟨S32x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S32x2048x512, .f32⟩
  | .hbm, ⟨11, _⟩ => ⟨S32x2048x512, .f32⟩
  | .hbm, ⟨12, _⟩ => ⟨S32x2048x32, .f32⟩
  | .hbm, ⟨13, _⟩ => ⟨S32x2048x32, .f32⟩
  | .hbm, ⟨14, _⟩ => ⟨S32x2048x32, .f32⟩
  | .hbm, ⟨15, _⟩ => ⟨S32x2048x32, .f32⟩
  | .hbm, ⟨16, _⟩ => ⟨S32x2048x32, .f32⟩
  | .hbm, ⟨17, _⟩ => ⟨S_, .f32⟩
  | .hbm, ⟨18, _⟩ => ⟨S32x2048x32, .f32⟩
  | .hbm, ⟨19, _⟩ => ⟨S32x2048x32, .f32⟩
  | .hbm, ⟨20, _⟩ => ⟨S_, .f32⟩
  | .hbm, ⟨21, _⟩ => ⟨S32x2048x32, .f32⟩
  | .hbm, ⟨22, _⟩ => ⟨S32x2048x32, .f32⟩
  | .hbm, ⟨23, _⟩ => ⟨S32x32, .f32⟩
  | .hbm, ⟨24, _⟩ => ⟨S32x2048x32, .f32⟩
  | .hbm, ⟨25, _⟩ => ⟨S32x2048x32, .f32⟩
  | .hbm, ⟨26, _⟩ => ⟨S32x2048x32, .f32⟩
  | .hbm, ⟨27, _⟩ => ⟨S32x2048x32, .f32⟩
  | .hbm, ⟨28, _⟩ => ⟨S32x2048x32, .f32⟩
  | .hbm, ⟨29, _⟩ => ⟨S_, .f32⟩
  | .hbm, ⟨30, _⟩ => ⟨S32x2048x32, .f32⟩
  | .hbm, ⟨31, _⟩ => ⟨S32x2048x32, .f32⟩
  | .hbm, ⟨32, _⟩ => ⟨S_, .f32⟩
  | .hbm, ⟨33, _⟩ => ⟨S32x2048x32, .f32⟩
  | .hbm, ⟨34, _⟩ => ⟨S32x2048x32, .f32⟩
  | .hbm, ⟨35, _⟩ => ⟨S32x2048x1, .f32⟩
  | .hbm, ⟨36, _⟩ => ⟨S32x2048x1, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S_, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x1x1, .f32⟩
  | .hbm, ⟨52, _⟩ => ⟨S32x2048x1, .f32⟩
  | .hbm, ⟨53, _⟩ => ⟨S32x2048x1, .f32⟩
  | .hbm, ⟨54, _⟩ => ⟨S32x2048x1, .f32⟩
  | .hbm, ⟨55, _⟩ => ⟨S_, .f32⟩
  | .hbm, ⟨56, _⟩ => ⟨S32x1, .f32⟩
  | .hbm, ⟨57, _⟩ => ⟨S32x1x1, .f32⟩
  | .hbm, ⟨58, _⟩ => ⟨S32x2048x1, .f32⟩
  | .hbm, ⟨59, _⟩ => ⟨S32x2048x1, .f32⟩
  | .hbm, ⟨60, _⟩ => ⟨S32x2048x1, .f32⟩
  | .hbm, ⟨61, _⟩ => ⟨S_, .f32⟩
  | .hbm, ⟨62, _⟩ => ⟨S32x1, .f32⟩
  | .hbm, ⟨63, _⟩ => ⟨S32x1x1, .f32⟩
  | .hbm, ⟨64, _⟩ => ⟨S_, .f32⟩
  | .hbm, ⟨65, _⟩ => ⟨S32x1x1, .f32⟩
  | .hbm, ⟨66, _⟩ => ⟨S32x1x1, .f32⟩
  | .hbm, ⟨67, _⟩ => ⟨S32x2048x1, .f32⟩
  | .hbm, ⟨68, _⟩ => ⟨S32x2048x1, .f32⟩
  | .hbm, ⟨69, _⟩ => ⟨S32x2048x512, .f32⟩
  | .hbm, ⟨70, _⟩ => ⟨S32x2048x512, .f32⟩
  | .hbm, ⟨71, _⟩ => ⟨S_, .f32⟩
  | .hbm, ⟨72, _⟩ => ⟨S32x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.Frames.lean ====
/- The three frame claims and the naming of the constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Proof.Frames

open Idealize.ShloMosaic Idealize.SL.Sem

/-- The kernel on bit patterns terminates without fault, leaves its arguments and ends with every counter at zero. -/
theorem kernel : Cert.quiescent_Kernel (hKernel := Cert.Kernel.Gen.facts) :=
  fun m g _ => Cert.Kernel.Gen.frame m g

/-- So does the kernel over the extended reals. -/
theorem kernelIdeal : Cert.quiescent_KernelIdeal (hKernelIdeal := Cert.KernelIdeal.Gen.facts) :=
  fun m g _ => Cert.KernelIdeal.Gen.frame m g

/-- And so does the reference over the extended reals, which has no counters. -/
theorem referenceIdeal : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- The named constant's bit pattern is the rounding of the named real. -/
theorem preserves : Cert.preserves_Kernel_KernelIdeal :=
  IdealRules.named_const.statement Cert.KernelIdeal.κ "c" .f32 0xBE8293EE#32
    ((-((Real.log 2)⁻¹ * (Real.sqrt 32)⁻¹) : ℝ) : EReal) rfl

end Cert.Proof.Frames

end
-- ==== Proof.Consts.lean ====
/- The float constants the two programs spell, as the extended reals their bit patterns denote. -/
module

public import Idealize.ShloMosaic.PureOps.Ideal

@[expose] public section

noncomputable section

namespace Cert.Proof.Consts

open Idealize.ShloMosaic

/-- The hidden width as a float denotes the real `32`. -/
theorem width_val : Ideal.ofBits .f32 0x42000000#32 = ((32 : ℝ) : EReal) := by
  simp [Ideal.ofBits, Ideal.ieee, -EReal.coe_mul]; norm_num

/-- The exponent of the square root denotes the real `1 / 2`. -/
theorem half_val : Ideal.ofBits .f32 0x3F000000#32 = (((1 : ℝ) / 2 : ℝ) : EReal) := by
  simp [Ideal.ofBits, Ideal.ieee, -EReal.coe_mul]; norm_num

/-- The start of the running maximum denotes minus infinity. -/
theorem neg_inf_val : Ideal.ofBits .f32 0xFF800000#32 = ⊥ := by
  simp [Ideal.ofBits, Ideal.ieee]

/-- The guard added to the normaliser, near `1e-12`, denotes a positive real. -/
theorem guard_val : ∃ e : ℝ, 0 < e ∧ Ideal.ofBits .f32 0x2B8CBCCC#32 = (e : EReal) := by
  refine ⟨_, ?_, by simp [Ideal.ofBits, Ideal.ieee, -EReal.coe_mul]; rfl⟩
  norm_num

end Cert.Proof.Consts

end
-- ==== Proof.Sigmoid.lean ====
/- The scaled sigmoid of both programs, as one function of an extended real. The kernel computes it with a power of two
   and a negative constant; the reference divides by the square root of 32 and takes an exponential. -/
module

public import proofs.«01_k».proof.Proof.Consts
public import Idealize.ShloMosaic.PureOps.Ideal
public import Mathlib.Analysis.SpecialFunctions.Pow.Real

@[expose] public section

noncomputable section

namespace Cert.Proof.Sigmoid

open Idealize.ShloMosaic

/-- The factor the kernel multiplies a score by: minus one over the product of `log 2` and the square root of 32. -/
def factor : EReal := ((-((Real.log 2)⁻¹ * (Real.sqrt 32)⁻¹) : ℝ) : EReal)

/-- The reference's divisor, the square root of 32 as a power with exponent one half. -/
def root : EReal := Ideal.pow (Ideal.ofBits .f32 0x42000000#32) (Ideal.ofBits .f32 0x3F000000#32)

/-- The activation of a score `u`: the sigmoid of `u` over the square root of 32. -/
def act (u : EReal) : EReal := Ideal.div 1 (1 + Ideal.exp (-(Ideal.div u root)))

/-- The divisor is the real square root of 32. -/
theorem root_val : root = ((Real.sqrt 32 : ℝ) : EReal) := by
  rw [root, Consts.width_val, Consts.half_val, Ideal.pow_coe_coe, Real.sqrt_eq_rpow]; rfl

/-- Dividing by it is multiplying by the positive real `1 / √32`. -/
theorem over_root (u : EReal) : Ideal.div u root = u * (((Real.sqrt 32)⁻¹ : ℝ) : EReal) := by
  rw [root_val, Ideal.div_coe (by positivity), one_div]

/-- The power of two of a scaled score is the exponential of minus the score over the square root of 32. -/
theorem exp2_factor (u : EReal) : Ideal.exp2 (u * factor) = Ideal.exp (-(Ideal.div u root)) := by
  have hs : 0 < (Real.sqrt 32)⁻¹ := by positivity
  have hl : 0 < Real.log 2 := Real.log_pos one_lt_two
  have hc : -((Real.log 2)⁻¹ * (Real.sqrt 32)⁻¹) < 0 := neg_lt_zero.mpr (mul_pos (inv_pos.mpr hl) hs)
  rw [over_root, factor]
  induction u with
  | bot => rw [EReal.bot_mul_coe_of_neg hc, EReal.bot_mul_coe_of_pos hs, EReal.neg_bot, Ideal.exp2_top, Ideal.exp_top]
  | top => rw [EReal.top_mul_coe_of_neg hc, EReal.top_mul_coe_of_pos hs, EReal.neg_top, Ideal.exp2_bot, Ideal.exp_bot]
  | coe r =>
    rw [← EReal.coe_mul, ← EReal.coe_mul, ← EReal.coe_neg, Ideal.exp2_coe, Ideal.exp_coe]
    congr 1
    show (2 : ℝ) ^ (r * -((Real.log 2)⁻¹ * (Real.sqrt 32)⁻¹)) = _
    rw [Real.rpow_def_of_pos two_pos]
    congr 1
    field_simp

/-- The kernel's activation of a score is the reference's. -/
theorem kernel_act (u : EReal) : Ideal.div 1 (1 + Ideal.exp2 (u * factor)) = act u := by
  rw [exp2_factor, act]

/-- The kernel masks a score by multiplying the factor by the mask bit; the reference masks the inputs. For a mask that
    is 0 or 1 the two activations agree. -/
theorem kernel_act_masked {n : ℕ} (x p : Fin n → EReal) (μ : EReal) (hμ : μ = 0 ∨ μ = 1) :
    Ideal.div 1 (1 + Ideal.exp2 ((∑ k, x k * p k) * (μ * factor))) = act (∑ k, x k * μ * p k) := by
  rw [← kernel_act]
  rcases hμ with rfl | rfl
  · simp only [zero_mul, mul_zero, Finset.sum_const_zero]
  · simp only [one_mul, mul_one]

/-- An activation is a real number, whatever the score. -/
theorem act_real (u : EReal) : ∃ r : ℝ, act u = (r : EReal) := by
  change ∃ r : ℝ, Ideal.logistic (Ideal.div u root) = (r : EReal)
  generalize Ideal.div u root = v
  induction v with
  | bot => exact ⟨0, Ideal.logistic_bot⟩
  | top => exact ⟨1, Ideal.logistic_top⟩
  | coe r => exact ⟨_, Ideal.logistic_coe r⟩

end Cert.Proof.Sigmoid

end
-- ==== Proof.Pooling.lean ====
/- The weighted mean of the rows. The reference takes a softmax of the scores with the maximum subtracted, masks it,
   divides by its sum plus a guard, and weighs the masked rows. The kernel weighs the rows by masked exponentials and
   multiplies once by the reciprocal of a sum. Here the two are shown equal, for scores that are real numbers, a mask of
   zeros and ones, and rows of any extended reals. -/
module

public import proofs.«01_k».proof.Proof.Consts
public import Idealize.ShloMosaic.PureOps.Ideal
public import Mathlib.Data.EReal.Operations
public import Mathlib.Data.Finset.Fold

@[expose] public section

noncomputable section

namespace Cert.Proof.Pooling

open Idealize.ShloMosaic

variable {n : ℕ}

/-- The guard added to the normaliser. -/
def guard : EReal := Ideal.ofBits .f32 0x2B8CBCCC#32

/-- The exponential of a score after the greatest score is subtracted. -/
def shifted (σ : Fin n → EReal) (s : Fin n) : EReal :=
  Ideal.exp (σ s - max (Ideal.ofBits .f32 0xFF800000#32) (Finset.fold max (Ideal.ofBits .f32 0xFF800000#32) σ Finset.univ))

/-- The softmax of the scores. -/
def soft (σ : Fin n → EReal) (s : Fin n) : EReal := Ideal.div (shifted σ s) (∑ s', shifted σ s')

/-- The reference's pooled entry: masked softmax weights, normalised, times the masked entries. -/
def pooledRef (σ μ x : Fin n → EReal) : EReal :=
  ∑ s, Ideal.div (soft σ s * μ s) ((∑ s', soft σ s' * μ s') + guard) * (x s * μ s)

/-- The kernel's pooled entry: masked exponentials times the entries, scaled once. -/
def pooledKernel (σ μ x : Fin n → EReal) : EReal :=
  (∑ s, Ideal.exp (σ s) * μ s * x s)
    * Ideal.div 1 ((∑ s, Ideal.exp (σ s) * μ s) + guard * ∑ s, Ideal.exp (σ s))

/-- Multiplying by a real that is not negative distributes over a sum of extended reals. -/
theorem sum_mul_real (f : Fin n → EReal) (k : ℝ) (hk : 0 ≤ k) : (∑ s, f s) * (k : EReal) = ∑ s, f s * (k : EReal) := by
  induction (Finset.univ : Finset (Fin n)) using Finset.induction_on with
  | empty => simp only [Finset.sum_empty, zero_mul]
  | insert a t ha ih =>
    rw [Finset.sum_insert ha, Finset.sum_insert ha,
      EReal.right_distrib_of_nonneg_of_ne_top (by exact_mod_cast hk) (EReal.coe_ne_top k), ih]

/-- The sum of reals, read in the extended reals. -/
theorem sum_real (f : Fin n → ℝ) : ∑ s, (f s : EReal) = ((∑ s, f s : ℝ) : EReal) := by
  induction (Finset.univ : Finset (Fin n)) using Finset.induction_on with
  | empty => simp only [Finset.sum_empty, EReal.coe_zero]
  | insert a t ha ih => rw [Finset.sum_insert ha, Finset.sum_insert ha, ih, EReal.coe_add]

/-- The quotient of two reals, the divisor not zero. -/
theorem div_real (a b : ℝ) (hb : b ≠ 0) : Ideal.div (a : EReal) (b : EReal) = ((a / b : ℝ) : EReal) := by
  rw [Ideal.div_coe hb, ← EReal.coe_mul, mul_one_div]

/-- The greatest of a nonempty family of real scores is a real. -/
theorem greatest_real [NeZero n] (τ : Fin n → ℝ) :
    ∃ M : ℝ, max (Ideal.ofBits .f32 0xFF800000#32)
      (Finset.fold max (Ideal.ofBits .f32 0xFF800000#32) (fun s => (τ s : EReal)) Finset.univ) = (M : EReal) := by
  rw [Consts.neg_inf_val, max_eq_right bot_le]
  generalize hv : Finset.fold max ⊥ (fun s => (τ s : EReal)) Finset.univ = v
  have h1 : v < ⊤ := by
    rw [← hv, Finset.fold_max_lt]
    exact ⟨bot_lt_top, fun s _ => EReal.coe_lt_top _⟩
  have h2 : ⊥ < v := by
    rw [← hv, Finset.lt_fold_max]
    exact .inr ⟨0, Finset.mem_univ _, EReal.bot_lt_coe _⟩
  exact ⟨v.toReal, (EReal.coe_toReal h1.ne h2.ne').symm⟩

/-- Over the reals: with weights `e` scaled by a common positive `c`, the normalised masked softmax is the masked weight
    over the masked sum plus the guard times the whole sum. -/
theorem weight_real (e ν : Fin n → ℝ) (c g : ℝ) (hc : 0 < c) (hZ : 0 < ∑ s, e s) (hN : 0 ≤ ∑ s, e s * ν s) (hg : 0 < g)
    (s : Fin n) :
    e s * c / (∑ s', e s' * c) * ν s / ((∑ s', e s' * c / (∑ s'', e s'' * c) * ν s') + g)
      = e s * ν s * (1 / ((∑ s', e s' * ν s') + g * ∑ s', e s')) := by
  have hsum : (∑ s', e s' * c) = (∑ s', e s') * c := (Finset.sum_mul ..).symm
  have hq : ∀ s', e s' * c / ((∑ s', e s') * c) = e s' / (∑ s', e s') := fun s' => mul_div_mul_right _ _ hc.ne'
  simp only [hsum, hq]
  have hden : (∑ s', e s' / (∑ s'', e s'') * ν s') = (∑ s', e s' * ν s') / ∑ s'', e s'' := by
    rw [Finset.sum_div]; exact Finset.sum_congr rfl fun s' _ => by ring
  rw [hden]
  generalize (∑ s', e s' * ν s') = N at *
  generalize (∑ s', e s') = Z at *
  have h1 : 0 < N + g * Z := by positivity
  have h2 : 0 < N / Z + g := by positivity
  field_simp

/-- THE EQUATION: for real scores and a mask of zeros and ones the two pooled entries are equal. -/
theorem pooled_eq [NeZero n] (σ μ x : Fin n → EReal) (hσ : ∀ s, ∃ r : ℝ, σ s = (r : EReal)) (hμ : ∀ s, μ s = 0 ∨ μ s = 1) :
    pooledKernel σ μ x = pooledRef σ μ x := by
  choose τ hτ using hσ
  obtain rfl : σ = fun s => (τ s : EReal) := funext hτ
  have hν : ∀ s, ∃ r : ℝ, μ s = (r : EReal) ∧ 0 ≤ r := fun s => by
    rcases hμ s with h | h
    · exact ⟨0, h, le_refl _⟩
    · exact ⟨1, h, zero_le_one⟩
  choose ν hν hν0 using hν
  obtain ⟨g, hg, hgv⟩ := Consts.guard_val
  obtain ⟨M, hM⟩ := greatest_real τ
  have he : ∀ s, 0 < Real.exp (τ s) := fun s => Real.exp_pos _
  have hZ : 0 < ∑ s, Real.exp (τ s) := Finset.sum_pos (fun s _ => he s) ⟨0, Finset.mem_univ _⟩
  have hN : 0 ≤ ∑ s, Real.exp (τ s) * ν s := Finset.sum_nonneg fun s _ => mul_nonneg (he s).le (hν0 s)
  have hsh : ∀ s, shifted (fun s => (τ s : EReal)) s = ((Real.exp (τ s) * Real.exp (-M) : ℝ) : EReal) := fun s => by
    rw [shifted, hM, ← EReal.coe_sub, Ideal.exp_coe, sub_eq_add_neg, Real.exp_add]
  have hZ' : 0 < ∑ s, Real.exp (τ s) * Real.exp (-M) := by
    rw [← Finset.sum_mul]; exact mul_pos hZ (Real.exp_pos _)
  have hso : ∀ s, soft (fun s => (τ s : EReal)) s
      = ((Real.exp (τ s) * Real.exp (-M) / (∑ s', Real.exp (τ s') * Real.exp (-M)) : ℝ) : EReal) := fun s => by
    rw [soft, hsh, Finset.sum_congr rfl fun s' _ => hsh s', sum_real, div_real _ _ hZ'.ne']
  have hd : 0 < (∑ s, Real.exp (τ s) * Real.exp (-M) / (∑ s', Real.exp (τ s') * Real.exp (-M)) * ν s) + g :=
    add_pos_of_nonneg_of_pos (Finset.sum_nonneg fun s _ =>
      mul_nonneg (div_nonneg (mul_pos (he s) (Real.exp_pos _)).le hZ'.le) (hν0 s)) hg
  have hk : 0 < (∑ s, Real.exp (τ s) * ν s) + g * ∑ s, Real.exp (τ s) := add_pos_of_nonneg_of_pos hN (mul_pos hg hZ)
  have hK : Ideal.div 1 ((∑ s, Ideal.exp (τ s : EReal) * μ s) + guard * ∑ s, Ideal.exp (τ s : EReal))
      = ((1 / ((∑ s, Real.exp (τ s) * ν s) + g * ∑ s, Real.exp (τ s)) : ℝ) : EReal) := by
    simp only [Ideal.exp_coe, hν, ← EReal.coe_mul, sum_real, guard, hgv, ← EReal.coe_add]
    exact div_real 1 _ hk.ne'
  rw [pooledKernel, hK, sum_mul_real _ _ (one_div_nonneg.mpr hk.le), pooledRef]
  refine Finset.sum_congr rfl fun s _ => ?_
  have hW : Ideal.div (soft (fun s => (τ s : EReal)) s * μ s) ((∑ s', soft (fun s => (τ s : EReal)) s' * μ s') + guard)
      = ((Real.exp (τ s) * ν s * (1 / ((∑ s', Real.exp (τ s') * ν s') + g * ∑ s', Real.exp (τ s'))) : ℝ) : EReal) := by
    simp only [hso, hν, ← EReal.coe_mul, sum_real, guard, hgv, ← EReal.coe_add]
    rw [div_real _ _ hd.ne', weight_real (fun s => Real.exp (τ s)) ν _ g (Real.exp_pos _) hZ hN hg s]
  rw [hW]
  rcases hμ s with h | h
  · have h0 : ν s = 0 := by rw [hν s] at h; exact_mod_cast h
    simp only [h, h0, mul_zero, zero_mul, EReal.coe_zero]
  · have h1 : ν s = 1 := by rw [hν s] at h; exact_mod_cast h
    rw [h, h1, mul_one, mul_one, mul_one, Ideal.exp_coe, EReal.coe_mul, mul_assoc, mul_assoc, mul_comm (x s)]

end Cert.Proof.Pooling

end
-- ==== Proof.Model.lean ====
/- What one batch row of the problem is, as a function of extended reals: three layers of scaled sigmoids give a score
   to each position, and the masked rows are averaged by the masked and normalised softmax of the scores. -/
module

public import proofs.«01_k».proof.Proof.Sigmoid
public import proofs.«01_k».proof.Proof.Pooling

@[expose] public section

noncomputable section

namespace Cert.Proof.Model

open Idealize.ShloMosaic Cert.Proof.Sigmoid Cert.Proof.Pooling

/-- The first layer: the masked inputs times the projector. -/
def first (x : Fin 2048 → Fin 512 → EReal) (μ : Fin 2048 → EReal) (p : Fin 512 → Fin 32 → EReal)
    (s : Fin 2048) (h : Fin 32) : EReal :=
  act (∑ d, x s d * μ s * p d h)

/-- The hidden layer. -/
def second (w : Fin 2048 → Fin 32 → EReal) (g : Fin 32 → Fin 32 → EReal) (s : Fin 2048) (h : Fin 32) : EReal :=
  act (∑ k, w s k * g k h)

/-- The score of a position. -/
def score (w : Fin 2048 → Fin 32 → EReal) (v : Fin 32 → EReal) (s : Fin 2048) : EReal :=
  act (∑ k, w s k * v k)

/-- The scores of a batch row, from its inputs, its mask and the three weight arrays. -/
def scores (x : Fin 2048 → Fin 512 → EReal) (μ : Fin 2048 → EReal) (p : Fin 512 → Fin 32 → EReal)
    (g : Fin 32 → Fin 32 → EReal) (v : Fin 32 → EReal) : Fin 2048 → EReal :=
  score (second (first x μ p) g) v

/-- One entry of a batch row's result. -/
def entry (x : Fin 2048 → Fin 512 → EReal) (μ : Fin 2048 → EReal) (p : Fin 512 → Fin 32 → EReal)
    (g : Fin 32 → Fin 32 → EReal) (v : Fin 32 → EReal) (d : Fin 512) : EReal :=
  pooledRef (scores x μ p g v) μ (fun s => x s d)

/-- The value of a mask bit: 0 or 1. -/
def bitVal (b : BitVec 1) : EReal := FloatOps.uitofp (F := Ideal) FTy.f32 b

/-- A mask bit's value is 0 or 1. -/
theorem bitVal_cases (b : BitVec 1) : bitVal b = 0 ∨ bitVal b = 1 := by
  rcases BitVec.eq_zero_or_eq_one b with rfl | rfl
  · exact .inl (by show (((0#1).toNat : ℝ) : EReal) = 0; simp)
  · exact .inr (by show (((1#1).toNat : ℝ) : EReal) = 1; simp)

end Cert.Proof.Model

end
-- ==== Proof.Block.lean ====
/- What the kernel body computes from the blocks of one grid point: the scores, then the pooled row. -/
module

public import proofs.«01_k».proof.Proof.Gen.KernelIdeal.Skeleton
public import proofs.«01_k».proof.Proof.Model
public import Idealize.ShloMosaic.Lib.Pointwise

@[expose] public section

set_option maxRecDepth 16384

noncomputable section

namespace Cert.Proof.Block

open Cert.KernelIdeal Cert.KernelIdeal.Gen Idealize.ShloMosaic Cert.Proof.Sigmoid Cert.Proof.Pooling Cert.Proof.Model

/-- The number the kernel makes of a mask word: 1 where the word is not zero, else 0. -/
def wordVal (w : BitVec 32) : EReal :=
  FloatOps.sitofp (F := Ideal) FTy.f32 (BitVec.setWidth 32 (IntOp.cmpi CmpIPredicate.ne w 0#32))

/-- On a mask bit widened to a word it is the bit's value. -/
theorem wordVal_bit (b : BitVec 1) : wordVal (BitVec.setWidth 32 b) = bitVal b := by
  rcases BitVec.eq_zero_or_eq_one b with rfl | rfl
  · show (((BitVec.setWidth 32 (IntOp.cmpi CmpIPredicate.ne (BitVec.setWidth 32 0#1) 0#32)).toInt : ℝ) : EReal)
      = (((0#1).toNat : ℝ) : EReal)
    rw [show (BitVec.setWidth 32 (IntOp.cmpi CmpIPredicate.ne (BitVec.setWidth 32 0#1) 0#32)).toInt = 0 by decide]; simp
  · show (((BitVec.setWidth 32 (IntOp.cmpi CmpIPredicate.ne (BitVec.setWidth 32 1#1) 0#32)).toInt : ℝ) : EReal)
      = (((1#1).toNat : ℝ) : EReal)
    rw [show (BitVec.setWidth 32 (IntOp.cmpi CmpIPredicate.ne (BitVec.setWidth 32 1#1) 0#32)).toInt = 1 by decide]; simp

/-- A mask word's number is 0 or 1. -/
theorem wordVal_cases (w : BitVec 32) : wordVal w = 0 ∨ wordVal w = 1 := by
  have h : ∀ b : BitVec 1, FloatOps.sitofp (F := Ideal) FTy.f32 (BitVec.setWidth 32 b) = (0 : EReal)
      ∨ FloatOps.sitofp (F := Ideal) FTy.f32 (BitVec.setWidth 32 b) = (1 : EReal) := fun b => by
    rcases BitVec.eq_zero_or_eq_one b with rfl | rfl
    · refine .inl ?_
      show (((BitVec.setWidth 32 0#1).toInt : ℝ) : EReal) = 0
      rw [show (BitVec.setWidth 32 0#1).toInt = 0 by decide]; simp
    · refine .inr ?_
      show (((BitVec.setWidth 32 1#1).toInt : ℝ) : EReal) = 1
      rw [show (BitVec.setWidth 32 1#1).toInt = 1 by decide]; simp
  exact h _

/-- The named constant of the program denotes the factor. -/
theorem named_factor : Named.named (F := Ideal) (φ := .f32) κ "c" 0xBE8293EE#32 = factor :=
  IdealRules.named_const.ideal_named_scalar _ _ _ _ rfl

/-- The body's activation of a score, in the body's operations, is the model's. -/
theorem body_act (u : EReal) :
    Ideal.div 1 (1 + FloatOps.exp2 (F := Ideal) (φ := .f32) (u * factor)) = act u :=
  kernel_act u

variable (x : Vec Ideal S1x2048x512 .f32) (mk : Vec Ideal S1x1x2048 .i32) (p : Vec Ideal S512x32 .f32)
  (hd : Vec Ideal S1x32x32 .f32) (ev : Vec Ideal S32x1 .f32)

/-- The weighted sum the body takes before its last activation, at a position: the model's two layers, summed. -/
theorem sum_read (s : Fin 2048) :
    k0_pay3 x mk p hd ev (ix2 0 s)
      = ∑ h, second (first (fun s d => x (ix3 0 s d)) (fun s => wordVal (mk (ix3 0 0 s))) (fun d h => p (ix2 d h)))
          (fun k h => hd (ix3 0 k h)) s h * ev (ix2 h 0) := by
  pointwise [k0_pay3, k0_pay2]
  refine Finset.sum_congr rfl fun h _ => congrArg (· * _) ?_
  rw [named_factor]
  refine (kernel_act _).trans (congrArg act (Finset.sum_congr rfl fun k _ => ?_))
  rw [mul_comm]
  exact congrArg (· * _) (kernel_act_masked _ _ _ (wordVal_cases _))

/-- The row the body stores, at an entry, from the scores' weighted sums. -/
theorem row_read (u : FVec Ideal S1x2048 .f32) (d : Fin 512) :
    k0_pay1 (k0_pay2 x) u mk (ix3 0 0 d)
      = pooledKernel (fun s => act (u (ix2 0 s))) (fun s => wordVal (mk (ix3 0 0 s))) (fun s => x (ix3 0 s d)) := by
  pointwise [k0_pay1, k0_pay2]
  rw [named_factor]
  simp only [body_act, Finset.univ_unique, Finset.sum_singleton]
  rfl

/-- THE BLOCK: what the body stores at an entry is the model's entry of the blocks it was given. -/
theorem block_read (d : Fin 512) :
    k0_pay1 (k0_pay2 x) (k0_pay3 x mk p hd ev) mk (ix3 0 0 d)
      = entry (fun s d => x (ix3 0 s d)) (fun s => wordVal (mk (ix3 0 0 s))) (fun d h => p (ix2 d h))
          (fun k h => hd (ix3 0 k h)) (fun h => ev (ix2 h 0)) d := by
  rw [row_read]
  simp only [sum_read]
  exact pooled_eq _ _ _ (fun s => act_real _) (fun s => wordVal_cases _)

end Cert.Proof.Block

end
-- ==== Proof.Array.lean ====
/- What the kernel's result buffer holds after the run: the blocks of the grid points tile the pipeline's output array,
   and the host reshapes that array into the result. -/
module

public import proofs.«01_k».proof.Proof.Gen.KernelIdeal.Frame
public import proofs.«01_k».proof.Proof.Block
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proof.Array

open Cert.KernelIdeal Cert.KernelIdeal.Gen Idealize.ShloMosaic Idealize.ShloMosaic.TcCoe
open Cert.Proof.Model Cert.Proof.Block

variable (m : (ℓ : Loc nD τ sig) → Buf (Elt Ideal) ℓ) (c : Dev nD)

/-- The model's entry `(a, d)` of the arguments in the kernel's memory. -/
def result (a : Fin 32) (d : Fin 512) : EReal :=
  entry (fun s d => m ((c : Thread nD τ).loc main_arg0) (ix3 a s d))
    (fun s => bitVal (m ((c : Thread nD τ).loc main_arg1) (ix2 a s)))
    (fun d h => m ((c : Thread nD τ).loc main_arg2) (ix2 d h))
    (fun k h => m ((c : Thread nD τ).loc main_arg3) (ix3 0 k h))
    (fun h => m ((c : Thread nD τ).loc main_arg4) (ix2 h 0)) d

/-- Where each window's block lies at a grid point: the inputs' row, the mask's row, the whole weight arrays, and the
    output's row. -/
theorem places : ∀ t : Fin cfg0.N, win0_0.index t = ![t.val, 0, 0] ∧ win0_1.index t = ![t.val, 0, 0]
    ∧ win0_2.index t = ![0, 0] ∧ win0_3.index t = ![0, 0, 0] ∧ win0_4.index t = ![0, 0]
    ∧ win0_5.index t = ![t.val, 0, 0] := by
  decide +kernel

/-- The inputs' block at a point is that batch row. -/
theorem inputs_block (t : Fin cfg0.N) (a : Fin 32) (ha : a.val = t.val) (s : Fin 2048) (d : Fin 512) :
    iblk m c 0 t (ix3 0 s d) = m ((c : Thread nD τ).loc main_arg0) (ix3 a s d) := by
  blk_ext [iblk, V, places t]

/-- The region finds each mask bit widened to a word. -/
theorem mask_words (a : Fin 32) (s : Fin 2048) :
    V m c main_v1 (ix3 a 0 s) = BitVec.setWidth 32 (m ((c : Thread nD τ).loc main_arg1) (ix2 a s)) := by
  unfold V V0
  after_reads_at

/-- The mask's block at a point is that batch row of widened bits. -/
theorem mask_block (t : Fin cfg0.N) (a : Fin 32) (ha : a.val = t.val) (s : Fin 2048) :
    iblk m c 1 t (ix3 0 0 s) = BitVec.setWidth 32 (m ((c : Thread nD τ).loc main_arg1) (ix2 a s)) := by
  rw [← mask_words]
  blk_ext [iblk, places t]

/-- The projector's block is the whole projector. -/
theorem projector_block (t : Fin cfg0.N) (d : Fin 512) (h : Fin 32) :
    iblk m c 2 t (ix2 d h) = m ((c : Thread nD τ).loc main_arg2) (ix2 d h) := by
  blk_ext [iblk, V, places t]

/-- The hidden weights' block is the whole array. -/
theorem hidden_block (t : Fin cfg0.N) (k h : Fin 32) :
    iblk m c 3 t (ix3 0 k h) = m ((c : Thread nD τ).loc main_arg3) (ix3 0 k h) := by
  blk_ext [iblk, V, places t]

/-- The evaluator's block is the whole evaluator. -/
theorem evaluator_block (t : Fin cfg0.N) (h : Fin 32) :
    iblk m c 4 t (ix2 h 0) = m ((c : Thread nD τ).loc main_arg4) (ix2 h 0) := by
  blk_ext [iblk, V, places t]

/-- What the body stores when its blocks are batch row `a` and the whole weight arrays: the model's row. -/
theorem stored_of (a : Fin 32) (x : Vec Ideal S1x2048x512 .f32) (mk : Vec Ideal S1x1x2048 .i32) (p : Vec Ideal S512x32 .f32)
    (hd : Vec Ideal S1x32x32 .f32) (ev : Vec Ideal S32x1 .f32)
    (hx : ∀ s d, x (ix3 0 s d) = m ((c : Thread nD τ).loc main_arg0) (ix3 a s d))
    (hm : ∀ s, mk (ix3 0 0 s) = BitVec.setWidth 32 (m ((c : Thread nD τ).loc main_arg1) (ix2 a s)))
    (hp : ∀ d h, p (ix2 d h) = m ((c : Thread nD τ).loc main_arg2) (ix2 d h))
    (hh : ∀ k h, hd (ix3 0 k h) = m ((c : Thread nD τ).loc main_arg3) (ix3 0 k h))
    (hv : ∀ h, ev (ix2 h 0) = m ((c : Thread nD τ).loc main_arg4) (ix2 h 0)) (d : Fin 512) :
    k0_pay1 (k0_pay2 x) (k0_pay3 x mk p hd ev) mk (ix3 0 0 d) = result m c a d := by
  rw [block_read]
  have e0 : (fun s d => x (ix3 0 s d)) = fun s d => m ((c : Thread nD τ).loc main_arg0) (ix3 a s d) :=
    funext fun s => funext fun d => hx s d
  have e1 : (fun s => wordVal (mk (ix3 0 0 s))) = fun s => bitVal (m ((c : Thread nD τ).loc main_arg1) (ix2 a s)) :=
    funext fun s => by rw [hm s, wordVal_bit]
  have e2 : (fun d h => p (ix2 d h)) = fun d h => m ((c : Thread nD τ).loc main_arg2) (ix2 d h) :=
    funext fun d => funext fun h => hp d h
  have e3 : (fun k h => hd (ix3 0 k h)) = fun k h => m ((c : Thread nD τ).loc main_arg3) (ix3 0 k h) :=
    funext fun k => funext fun h => hh k h
  have e4 : (fun h => ev (ix2 h 0)) = fun h => m ((c : Thread nD τ).loc main_arg4) (ix2 h 0) := funext fun h => hv h
  rw [e0, e1, e2, e3, e4, result]

/-- What the body stores at a point is the model's batch row of that point. -/
theorem stored (t : Fin cfg0.N) (a : Fin 32) (ha : a.val = t.val) (d : Fin 512) :
    k0_pay1 (k0_pay2 (iblk m c 0 t)) (k0_pay3 (iblk m c 0 t) (iblk m c 1 t) (iblk m c 2 t) (iblk m c 3 t) (iblk m c 4 t))
      (iblk m c 1 t) (ix3 0 0 d) = result m c a d :=
  stored_of m c a _ _ _ _ _ (inputs_block m c t a ha) (mask_block m c t a ha) (projector_block m c t)
    (hidden_block m c t) (evaluator_block m c t) d

/-- The output array after the run: each entry is the model's. -/
theorem array_eq : (dats m 0 c).arrAt 5 cfg0.N = fun i => result m c (i 0) (i 2) := by
  refine (dats m 0 c).arrAt_eq_of_covers 5 _ (by decide +kernel) fun t hf y => ?_
  blk_simp; rw [after0_5]; frame_out
  have e0 : ((((View.whole main_v2).slice (win0_5.rect t)).emb y 0 : Fin 32) : ℕ) = t.val := by
    blk_simp [places t]
  have e2 : ((View.whole main_v2).slice (win0_5.rect t)).emb y 2 = y 2 := by
    apply Fin.ext
    blk_simp [places t]
  rw [e2]
  have hy : y = ix3 0 0 (y 2) := by blk_ext
  generalize ((View.whole main_v2).slice (win0_5.rect t)).emb y 0 = a at e0 ⊢
  generalize (y 2 : Fin 512) = d at hy ⊢
  rw [hy]
  exact stored m c t a e0 d

/-- THE RESULT BUFFER after the run: each entry is the model's. -/
theorem result_eq (a : Fin 32) (d : Fin 512) :
    Pipeline.afterTail₀ cfgs (dats m) 0 (V0 m) [hostOps1] c main_v3 (ix2 a d) = result m c a d := by
  unfold Pipeline.afterTail₀
  after_reads_at
  have h := Pipeline.withArrays_arr spec0 launch0.win.arr_inj c (V0 m c) (fun w => (dats m 0 c).arrAt w cfg0.N) 5
  rw [array_eq] at h
  exact congrFun h (ix3 a 0 d)

end Cert.Proof.Array

end
-- ==== Proof.Ref.lean ====
/- What the reference computes, read at an entry: the model's entry of its arguments. The composed term of its
   operations is first cut into named stages. -/
module

public import proofs.«01_k».proof.Proof.Gen.ReferenceIdeal.Run
public import proofs.«01_k».proof.Proof.Gen.ReferenceIdeal
public import proofs.«01_k».proof.Proof.Model
public import Idealize.ShloMosaic.Lib.Pointwise

@[expose] public section

set_option maxRecDepth 16384

noncomputable section

namespace Cert.Proof.Ref

open Cert.ReferenceIdeal Cert.ReferenceIdeal.Gen Cert.ReferenceIdeal.Value Idealize.ShloMosaic
open Cert.Proof.Sigmoid Cert.Proof.Pooling Cert.Proof.Model

/-- The square root of 32 as the reference spells it. -/
def scale : FVec Ideal S_ .f32 := Host.powf (constant S_ .f32 0x42000000#32) (constant S_ .f32 0x3F000000#32)

/-- The mask as a column of floats. -/
def maskCol (b : IVec S32x2048 1) : FVec Ideal S32x2048x1 .f32 :=
  broadcastInDim S32x2048x1 ![0, 1] bcast_S32x2048_S32x2048x1_0_1 (uitofp .f32 b)

/-- The masked inputs. -/
def masked (x : FVec Ideal S32x2048x512 .f32) (b : IVec S32x2048 1) : FVec Ideal S32x2048x512 .f32 :=
  mulf x (broadcastInDim S32x2048x512 ![0, 1, 2] bcast_S32x2048x1_S32x2048x512_0_1_2 (maskCol b))

/-- The scaled sigmoid of a hidden layer's array. -/
def hiddenAct (u : FVec Ideal S32x2048x32 .f32) : FVec Ideal S32x2048x32 .f32 :=
  Host.divf (broadcastInDim S32x2048x32 ![] bcast_S_S32x2048x32 (constant S_ .f32 0x3F800000#32))
    (addf (broadcastInDim S32x2048x32 ![] bcast_S_S32x2048x32 (constant S_ .f32 0x3F800000#32))
      (Host.exp (Host.negf (Host.divf u (broadcastInDim S32x2048x32 ![] bcast_S_S32x2048x32 scale)))))

/-- The scaled sigmoid of the column of scores. -/
def scoreAct (u : FVec Ideal S32x2048x1 .f32) : FVec Ideal S32x2048x1 .f32 :=
  Host.divf (broadcastInDim S32x2048x1 ![] bcast_S_S32x2048x1 (constant S_ .f32 0x3F800000#32))
    (addf (broadcastInDim S32x2048x1 ![] bcast_S_S32x2048x1 (constant S_ .f32 0x3F800000#32))
      (Host.exp (Host.negf (Host.divf u (broadcastInDim S32x2048x1 ![] bcast_S_S32x2048x1 scale)))))

/-- The first layer. -/
def layer1 (x : FVec Ideal S32x2048x512 .f32) (b : IVec S32x2048 1) (p : FVec Ideal S512x32 .f32) :
    FVec Ideal S32x2048x32 .f32 :=
  hiddenAct (Host.dotGeneral dot_S32x2048x512_S512x32_S32x2048x32_2_0_01_1_n_n none (masked x b) p)

/-- The hidden layer. -/
def layer2 (w : FVec Ideal S32x2048x32 .f32) (hd : FVec Ideal S1x32x32 .f32) : FVec Ideal S32x2048x32 .f32 :=
  hiddenAct (Host.dotGeneral dot_S32x2048x32_S32x32_S32x2048x32_2_0_01_1_n_n none w
    (shapeCast _ hd shapeCasts_S1x32x32_S32x32))

/-- The column of scores. -/
def layer3 (w : FVec Ideal S32x2048x32 .f32) (ev : FVec Ideal S32x1 .f32) : FVec Ideal S32x2048x1 .f32 :=
  scoreAct (Host.dotGeneral dot_S32x2048x32_S32x1_S32x2048x1_2_0_01_1_n_n none w ev)

/-- One number per batch row, repeated down its column. -/
def spread (v : FVec Ideal S32x1 .f32) : FVec Ideal S32x2048x1 .f32 :=
  broadcastInDim S32x2048x1 ![0, 1, 2] bcast_S32x1x1_S32x2048x1_0_1_2
    (broadcastInDim S32x1x1 ![0, 2] bcast_S32x1_S32x1x1_0_2 v)

/-- The exponentials of the scores after each column's greatest is subtracted. -/
def shiftedCol (s : FVec Ideal S32x2048x1 .f32) : FVec Ideal S32x2048x1 .f32 :=
  Host.exp (subf s (spread (maximumf (broadcastInDim S32x1 ![] bcast_S_S32x1 (constant S_ .f32 0xFF800000#32))
    (Host.reduce FloatOps.maximumf s (constant S_ .f32 0xFF800000#32) reducesTo_S32x2048x1_S32x1_d1 h_S_))))

/-- The softmax of each column. -/
def softCol (s : FVec Ideal S32x2048x1 .f32) : FVec Ideal S32x2048x1 .f32 :=
  Host.divf (shiftedCol s)
    (spread (Host.reduceAdd (shiftedCol s) (constant S_ .f32 0x00000000#32) reducesTo_S32x2048x1_S32x1_d1 h_S_))

/-- Masked weights divided by their sum plus the guard. -/
def normalised (w : FVec Ideal S32x2048x1 .f32) : FVec Ideal S32x2048x1 .f32 :=
  Host.divf w (broadcastInDim S32x2048x1 ![0, 1, 2] bcast_S32x1x1_S32x2048x1_0_1_2
    (addf (broadcastInDim S32x1x1 ![0, 2] bcast_S32x1_S32x1x1_0_2
        (Host.reduceAdd w (constant S_ .f32 0x00000000#32) reducesTo_S32x2048x1_S32x1_d1 h_S_))
      (broadcastInDim S32x1x1 ![] bcast_S_S32x1x1 (constant S_ .f32 0x2B8CBCCC#32))))

/-- The masked inputs weighed and summed. -/
def weighed (w : FVec Ideal S32x2048x1 .f32) (xm : FVec Ideal S32x2048x512 .f32) : FVec Ideal S32x512 .f32 :=
  Host.reduceAdd (mulf (broadcastInDim S32x2048x512 ![0, 1, 2] bcast_S32x2048x1_S32x2048x512_0_1_2 w) xm)
    (constant S_ .f32 0x00000000#32) reducesTo_S32x2048x512_S32x512_d1 h_S_

/-- The whole reference from its arguments. -/
def whole (x : FVec Ideal S32x2048x512 .f32) (b : IVec S32x2048 1) (p : FVec Ideal S512x32 .f32)
    (hd : FVec Ideal S1x32x32 .f32) (ev : FVec Ideal S32x1 .f32) : FVec Ideal S32x512 .f32 :=
  weighed (normalised (mulf (softCol (layer3 (layer2 (layer1 x b p) hd) ev)) (maskCol b))) (masked x b)

/-- The reference's composed term is the stages, composed. -/
theorem stages (m : (ℓ : Loc nD τ sig) → Buf (Elt Ideal) ℓ) (c : Dev nD) :
    res_out0 m c = whole (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  unfold res_out0 res_main_v53
  rfl

/-- The mask column at an entry. -/
theorem maskCol_read (b : IVec S32x2048 1) (a : Fin 32) (s : Fin 2048) :
    maskCol b (ix3 a s 0) = bitVal (b (ix2 a s)) := by
  pointwise [maskCol]
  rfl

/-- The masked inputs at an entry. -/
theorem masked_read (x : FVec Ideal S32x2048x512 .f32) (b : IVec S32x2048 1) (a : Fin 32) (s : Fin 2048) (d : Fin 512) :
    masked x b (ix3 a s d) = x (ix3 a s d) * bitVal (b (ix2 a s)) := by
  pointwise [masked, maskCol]
  rfl

/-- The first layer at an entry. -/
theorem layer1_read (x : FVec Ideal S32x2048x512 .f32) (b : IVec S32x2048 1) (p : FVec Ideal S512x32 .f32)
    (a : Fin 32) (s : Fin 2048) (h : Fin 32) :
    layer1 x b p (ix3 a s h)
      = first (fun s d => x (ix3 a s d)) (fun s => bitVal (b (ix2 a s))) (fun d h => p (ix2 d h)) s h := by
  pointwise [layer1, hiddenAct, masked, maskCol, scale]
  rfl

/-- The hidden layer at an entry. -/
theorem layer2_read (w : FVec Ideal S32x2048x32 .f32) (hd : FVec Ideal S1x32x32 .f32) (a : Fin 32) (s : Fin 2048) (h : Fin 32) :
    layer2 w hd (ix3 a s h) = second (fun s k => w (ix3 a s k)) (fun k h => hd (ix3 0 k h)) s h := by
  pointwise [layer2, hiddenAct, scale]
  rfl

/-- The scores at an entry. -/
theorem layer3_read (w : FVec Ideal S32x2048x32 .f32) (ev : FVec Ideal S32x1 .f32) (a : Fin 32) (s : Fin 2048) :
    layer3 w ev (ix3 a s 0) = score (fun s k => w (ix3 a s k)) (fun k => ev (ix2 k 0)) s := by
  pointwise [layer3, scoreAct, scale]
  rfl

/-- The softmax at an entry. -/
theorem softCol_read (w : FVec Ideal S32x2048x1 .f32) (a : Fin 32) (s : Fin 2048) :
    softCol w (ix3 a s 0) = soft (fun s => w (ix3 a s 0)) s := by
  pointwise [softCol, shiftedCol, spread]
  rfl

/-- The normalised weights at an entry. -/
theorem normalised_read (w : FVec Ideal S32x2048x1 .f32) (a : Fin 32) (s : Fin 2048) :
    normalised w (ix3 a s 0) = Ideal.div (w (ix3 a s 0)) ((∑ s', w (ix3 a s' 0)) + guard) := by
  pointwise [normalised]
  rfl

/-- The weighed sum at an entry. -/
theorem weighed_read (w : FVec Ideal S32x2048x1 .f32) (xm : FVec Ideal S32x2048x512 .f32) (a : Fin 32) (d : Fin 512) :
    weighed w xm (ix2 a d) = ∑ s, w (ix3 a s 0) * xm (ix3 a s d) := by
  pointwise [weighed]

/-- THE REFERENCE at an entry is the model's entry of its arguments. -/
theorem whole_read (x : FVec Ideal S32x2048x512 .f32) (b : IVec S32x2048 1) (p : FVec Ideal S512x32 .f32)
    (hd : FVec Ideal S1x32x32 .f32) (ev : FVec Ideal S32x1 .f32) (a : Fin 32) (d : Fin 512) :
    whole x b p hd ev (ix2 a d)
      = entry (fun s d => x (ix3 a s d)) (fun s => bitVal (b (ix2 a s))) (fun d h => p (ix2 d h))
          (fun k h => hd (ix3 0 k h)) (fun h => ev (ix2 h 0)) d := by
  have hw : ∀ s, mulf (softCol (layer3 (layer2 (layer1 x b p) hd) ev)) (maskCol b) (ix3 a s 0)
      = soft (scores (fun s d => x (ix3 a s d)) (fun s => bitVal (b (ix2 a s))) (fun d h => p (ix2 d h))
          (fun k h => hd (ix3 0 k h)) (fun h => ev (ix2 h 0))) s * bitVal (b (ix2 a s)) := fun s => by
    show softCol _ (ix3 a s 0) * maskCol b (ix3 a s 0) = _
    simp only [softCol_read, maskCol_read, layer3_read, layer2_read, layer1_read]
    rfl
  rw [whole, weighed_read, entry, pooledRef]
  simp only [normalised_read, masked_read, hw]

end Cert.Proof.Ref

end
-- ==== Proof.Equation.lean ====
/- The value claim: run from memories that agree on the arguments, the kernel and the reference end with equal results. -/
module

public import proofs.«01_k».proof.Defs
public import proofs.«01_k».proof.Proof.Array
public import proofs.«01_k».proof.Proof.Ref
public import proofs.«01_k».proof.Proof.Gen.KernelIdeal

@[expose] public section

set_option maxRecDepth 16384

noncomputable section

namespace Cert.Proof.Equation

open Idealize.ShloMosaic Idealize.ShloMosaic.TcCoe Idealize.SL.Sem

section Kernel
open Cert.KernelIdeal Cert.KernelIdeal.Gen

/-- The kernel runs; its result buffer ends holding the model's entries, and its arguments end unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = (fun i => Array.result m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m g) (unchanged m g))
  refine ((h.1 c).2 main_v3 (Pipeline.mem_restRefs_of main_v3 (by decide) (by decide))).trans ?_
  funext i
  idx_vars i
  exact Array.result_eq m c _ _

end Kernel

section Reference
open Cert.ReferenceIdeal Cert.ReferenceIdeal.Gen

/-- The reference's result, from a memory whose arguments are the kernel's: the model's entries of the kernel's arguments. -/
theorem reference_result (m : (ℓ : Loc Cert.KernelIdeal.nD Cert.KernelIdeal.τ Cert.KernelIdeal.sig) → Buf (Elt Ideal) ℓ)
    (m' : (ℓ : Loc nD τ sig) → Buf (Elt Ideal) ℓ) (c : Dev Cert.KernelIdeal.nD)
    (h0 : m' ((c.tc : Thread nD τ).loc main_arg0)
      = m ((c.tc : Thread Cert.KernelIdeal.nD Cert.KernelIdeal.τ).loc Cert.KernelIdeal.main_arg0))
    (h1 : m' ((c.tc : Thread nD τ).loc main_arg1)
      = m ((c.tc : Thread Cert.KernelIdeal.nD Cert.KernelIdeal.τ).loc Cert.KernelIdeal.main_arg1))
    (h2 : m' ((c.tc : Thread nD τ).loc main_arg2)
      = m ((c.tc : Thread Cert.KernelIdeal.nD Cert.KernelIdeal.τ).loc Cert.KernelIdeal.main_arg2))
    (h3 : m' ((c.tc : Thread nD τ).loc main_arg3)
      = m ((c.tc : Thread Cert.KernelIdeal.nD Cert.KernelIdeal.τ).loc Cert.KernelIdeal.main_arg3))
    (h4 : m' ((c.tc : Thread nD τ).loc main_arg4)
      = m ((c.tc : Thread Cert.KernelIdeal.nD Cert.KernelIdeal.τ).loc Cert.KernelIdeal.main_arg4)) :
    Value.res_out0 m' c = fun i => Array.result m c (i 0) (i 1) := by
  rw [Ref.stages, h0, h1, h2, h3, h4]
  funext i
  idx_vars i
  exact Ref.whole_read _ _ _ _ _ _ _

end Reference

/-- THE VALUE CLAIM: the kernel's result is the reference's, entry by entry, for all extended-real arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c i => Array.result m c (i 0) (i 1), kernel_run m g, ?_⟩
  refine (θ_run _ _ _).mono (fun r h c => ⟨(h c).1.trans ?_, (h c).2⟩) (Cert.ReferenceIdeal.Value.run (F := Ideal) m' g')
  obtain ⟨h0, h1, h2, h3, h4⟩ := hagree c
  exact reference_result m m' c h0 h1 h2 h3 h4

end Cert.Proof.Equation

end
-- ==== Proof.lean ====
module

public import proofs.«01_k».proof.Defs
public import proofs.«01_k».proof.Proof.Frames
public import proofs.«01_k».proof.Proof.Equation
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts,
    Frames.kernel, Frames.kernelIdeal, Frames.referenceIdeal, Frames.preserves, Equation.algebraic⟩

end Cert.Proof

end
